-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x3072x1024 : Shape := ⟨3, ![6, 3072, 1024]⟩
abbrev S6x3072x1 : Shape := ⟨3, ![6, 3072, 1]⟩
abbrev S1024x3072 : Shape := ⟨2, ![1024, 3072]⟩
abbrev S3072 : Shape := ⟨1, ![3072]⟩
abbrev S6x3072x3072 : Shape := ⟨3, ![6, 3072, 3072]⟩
abbrev S18432x1024 : Shape := ⟨2, ![18432, 1024]⟩
abbrev S18432 : Shape := ⟨1, ![18432]⟩
abbrev S1x3072 : Shape := ⟨2, ![1, 3072]⟩
abbrev S18432x3072 : Shape := ⟨2, ![18432, 3072]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S6x3072x1024, .fp8e4m3⟩
  | .hbm, ⟨1, _⟩ => ⟨S6x3072x1, .f32⟩
  | .hbm, ⟨2, _⟩ => ⟨S1024x3072, .fp8e4m3⟩
  | .hbm, ⟨3, _⟩ => ⟨S3072, .f32⟩
  | .hbm, ⟨4, _⟩ => ⟨S6x3072x3072, .bf16⟩
  | .hbm, ⟨5, _⟩ => ⟨S18432x1024, .fp8e4m3⟩
  | .hbm, ⟨6, _⟩ => ⟨S18432, .f32⟩
  | .hbm, ⟨7, _⟩ => ⟨S1x3072, .f32⟩
  | .hbm, ⟨8, _⟩ => ⟨S18432x3072, .bf16⟩
  | .hbm, ⟨9, _⟩ => ⟨S18432x3072, .bf16⟩
  | .hbm, ⟨10, _⟩ => ⟨S6x3072x3072, .bf16⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1024, .f32⟩
  | .local _ .vmem, ⟨3, _⟩ => ⟨S1024, .f32⟩
  | .local _ .vmem, ⟨4, _⟩ => ⟨S1024x3072, .fp8e4m3⟩
  | .local _ .vmem, ⟨5, _⟩ => ⟨S1x3072, .f32⟩
  | .local _ .vmem, ⟨6, _⟩ => ⟨S1024x3072, .bf16⟩
  | .local _ .vmem, ⟨7, _⟩ => ⟨S1024x3072, .bf16⟩
  | .local _ .vmem, ⟨8, _⟩ => ⟨S1024x3072, .bf16⟩
  | .local _ .vmem, ⟨9, _⟩ => ⟨S1024x3072, .bf16⟩
  | _, _ => ⟨S6x3072x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S6x3072x1024 : Shape := ⟨3, ![6, 3072, 1024]⟩
abbrev S6x3072x1 : Shape := ⟨3, ![6, 3072, 1]⟩
abbrev S1024x3072 : Shape := ⟨2, ![1024, 3072]⟩
abbrev S3072 : Shape := ⟨1, ![3072]⟩
abbrev S6x3072x3072 : Shape := ⟨3, ![6, 3072, 3072]⟩
abbrev S1x1x3072 : Shape := ⟨3, ![1, 1, 3072]⟩

abbrev nBuf : Space → Nat
  | .hbm => 6
  | .vmem => 6
  | .smem => 0
  | _ => 0

abbrev bufTy : (tb : Table) → Fin (tcTables nBuf tb) → BufTy
  | .hbm, ⟨0, _⟩ => ⟨S6x3072x1024, .fp8e4m3⟩
  | .hbm, ⟨1, _⟩ => ⟨S6x3072x1, .f32⟩
  | .hbm, ⟨2, _⟩ => ⟨S1024x3072, .fp8e4m3⟩
  | .hbm, ⟨3, _⟩ => ⟨S3072, .f32⟩
  | .hbm, ⟨4, _⟩ => ⟨S6x3072x3072, .bf16⟩
  | .hbm, ⟨5, _⟩ => ⟨S6x3072x3072, .bf16⟩
  | .local _ .vmem, ⟨0, _⟩ => ⟨S6x3072x1024, .fp8e4m3⟩
  | .local _ .vmem, ⟨1, _⟩ => ⟨S6x3072x1, .f32⟩
  | .local _ .vmem, ⟨2, _⟩ => ⟨S1024x3072, .fp8e4m3⟩
  | .local _ .vmem, ⟨3, _⟩ => ⟨S3072, .f32⟩
  | .local _ .vmem, ⟨4, _⟩ => ⟨S6x3072x3072, .bf16⟩
  | .local _ .vmem, ⟨5, _⟩ => ⟨S6x3072x3072, .bf16⟩
  | _, _ => ⟨S6x3072x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x3072x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x3072x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x3072x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/- The mathematics both programs are shown to compute, one element at a time, with no mention of blocks. -/
module

public import Idealize.ShloMosaic.Lib.Pointwise

@[expose] public section

noncomputable section

namespace Cert.Spec

open Idealize.ShloMosaic

/-- Element `(b, s, o)` of the result: row `(b, s)` of `x` against column `o` of `w`, times the row's scale, times the
    column's scale, plus the residual. -/
def down (x : Vec Ideal ⟨3, ![6, 3072, 1024]⟩ .fp8e4m3) (xs : Vec Ideal ⟨3, ![6, 3072, 1]⟩ .f32)
    (w : Vec Ideal ⟨2, ![1024, 3072]⟩ .fp8e4m3) (ws : Vec Ideal ⟨1, ![3072]⟩ .f32)
    (r : Vec Ideal ⟨3, ![6, 3072, 3072]⟩ .bf16) (b : Fin 6) (s o : Fin 3072) : Ideal .bf16 :=
  (((0 : Ideal .f32) + ∑ k : Fin 1024, x (ix3 b s k) * w (ix2 k o)) * xs (ix3 b s 0)) * ws (ix1 o) + r (ix3 b s o)

end Cert.Spec

end
-- ==== Proof.KernelValue.lean ====
/- What the kernel leaves in its result: the block that one grid point computes, the flat array the 18 blocks fill,
   and that array read back at the result's three axes. -/
module

public import proofs.«01_k».proof.Defs
public import proofs.«01_k».proof.Proof.Spec
public import proofs.«01_k».proof.Proof.Gen.KernelIdeal.Frame
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Rows

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- One element of what a grid point stores, from the blocks it loads: the row of `v0` against the column of `v2`,
    times the row's scale, times the column's scale, plus the residual. -/
theorem pay_apply (v0 : Vec Ideal S1024x1024 .fp8e4m3) (v2 : Vec Ideal S1024x3072 .fp8e4m3) (v4 : Vec Ideal S1024 .f32)
    (v9 : Vec Ideal S1x3072 .f32) (v13 : Vec Ideal S1024x3072 .bf16) (r : Fin 1024) (o : Fin 3072) :
    k0_pay1 v0 v2 v4 v9 v13 (ix2 r o)
      = ((0 + ∑ k : Fin 1024, v0 (ix2 r k) * v2 (ix2 k o)) * v4 (ix1 r)) * v9 (ix2 0 o) + v13 (ix2 r o) := by
  pointwise [k0_pay1]

/-- The index maps of the windows at every grid point. -/
theorem idx : ∀ t : Fin cfg0.N, win0_0.index t = ![t.val, 0] ∧ win0_1.index t = ![t.val] ∧ win0_2.index t = ![0, 0]
    ∧ win0_3.index t = ![0, 0] ∧ win0_4.index t = ![t.val, 0] ∧ win0_5.index t = ![t.val, 0] :=
  (by decide +kernel : ∀ t : Fin grid0.N, _)

/-- Element `(R, o)` of the flat result, `R = b * 3072 + s`, in terms of the five arguments of device `c`. -/
def flat (c : Dev nD) : Buf (Elt Ideal) ((c : Thread nD τ).loc main_v4) := fun i =>
  Cert.Spec.down (m ((c : Thread nD τ).loc main_arg0)) (m ((c : Thread nD τ).loc main_arg1))
    (m ((c : Thread nD τ).loc main_arg2)) (m ((c : Thread nD τ).loc main_arg3)) (m ((c : Thread nD τ).loc main_arg4))
    ⟨(i 0).val / 3072, Nat.div_lt_of_lt_mul (i 0).isLt⟩ ⟨(i 0).val % 3072, Nat.mod_lt _ (by decide)⟩ (i 1)

/-- The host lines before the region flatten `x`. -/
theorem V_x (c : Dev nD) : V m c main_v0 = shapeCast S18432x1024 (m ((c : Thread nD τ).loc main_arg0)) shapeCasts_S6x3072x1024_S18432x1024 := by
  entry_read
  rfl

/-- They flatten the row scales. -/
theorem V_xs (c : Dev nD) : V m c main_v1 = shapeCast S18432 (m ((c : Thread nD τ).loc main_arg1)) shapeCasts_S6x3072x1_S18432 := by
  entry_read
  rfl

/-- They give the column scales a unit axis. -/
theorem V_ws (c : Dev nD) : V m c main_v2 = shapeCast S1x3072 (m ((c : Thread nD τ).loc main_arg3)) shapeCasts_S3072_S1x3072 := by
  entry_read
  rfl

/-- They flatten the residual. -/
theorem V_r (c : Dev nD) : V m c main_v3 = shapeCast S18432x3072 (m ((c : Thread nD τ).loc main_arg4)) shapeCasts_S6x3072x3072_S18432x3072 := by
  entry_read
  rfl

/-- Element `(R, k)` of `x` flattened to rows, `R = b * 3072 + s`. -/
theorem cast_x (x : Vec Ideal S6x3072x1024 .fp8e4m3) (R : Fin 18432) (k : Fin 1024) (b : Fin 6) (s : Fin 3072)
    (h : R.val = b.val * 3072 + s.val) : shapeCast S18432x1024 x shapeCasts_S6x3072x1024_S18432x1024 (ix2 R k) = x (ix3 b s k) := by
  pointwise
  blk_ext

/-- Element `R` of the flattened row scales. -/
theorem cast_xs (x : Vec Ideal S6x3072x1 .f32) (R : Fin 18432) (b : Fin 6) (s : Fin 3072)
    (h : R.val = b.val * 3072 + s.val) : shapeCast S18432 x shapeCasts_S6x3072x1_S18432 (ix1 R) = x (ix3 b s 0) := by
  pointwise
  blk_ext

/-- Element `(0, o)` of the column scales under a unit axis. -/
theorem cast_ws (x : Vec Ideal S3072 .f32) (o : Fin 3072) : shapeCast S1x3072 x shapeCasts_S3072_S1x3072 (ix2 0 o) = x (ix1 o) := by
  pointwise

/-- Element `(R, o)` of the flattened residual. -/
theorem cast_r (x : Vec Ideal S6x3072x3072 .bf16) (R : Fin 18432) (o : Fin 3072) (b : Fin 6) (s : Fin 3072)
    (h : R.val = b.val * 3072 + s.val) : shapeCast S18432x3072 x shapeCasts_S6x3072x3072_S18432x3072 (ix2 R o) = x (ix3 b s o) := by
  pointwise
  blk_ext

/-- Element `(b, s, o)` of the flat result split into its three axes. -/
theorem cast_y (x : Vec Ideal S18432x3072 .bf16) (R : Fin 18432) (o : Fin 3072) (b : Fin 6) (s : Fin 3072)
    (h : R.val = b.val * 3072 + s.val) : shapeCast S6x3072x3072 x shapeCasts_S18432x3072_S6x3072x3072 (ix3 b s o) = x (ix2 R o) := by
  pointwise
  blk_ext

/-- The 18 blocks of 1024 rows are rows of the flat arrays. -/
theorem lt (t : Fin cfg0.N) (r : Fin 1024) : t.val * 1024 + r.val < 18432 := by
  have ht : t.val < 18 := t.isLt
  omega

/-- Row `r` of the block of `x` at point `t` is row `(b, s)` of `x`, where `t * 1024 + r = b * 3072 + s`. -/
theorem blk_x (c : Dev nD) (t : Fin cfg0.N) (r k : Fin 1024) (b : Fin 6) (s : Fin 3072) (h : t.val * 1024 + r.val = b.val * 3072 + s.val) :
    iblk m c 0 t (ix2 r k) = m ((c : Thread nD τ).loc main_arg0) (ix3 b s k) := by
  have e : iblk m c 0 t (ix2 r k) = V m c main_v0 (ix2 ⟨t.val * 1024 + r.val, lt t r⟩ k) := by
    blk_ext [iblk, idx t]
  exact e.trans ((congrFun (V_x m c) _).trans (cast_x _ _ k b s h))

/-- The scale of row `r` of the block at point `t` is the scale of row `(b, s)`. -/
theorem blk_xs (c : Dev nD) (t : Fin cfg0.N) (r : Fin 1024) (b : Fin 6) (s : Fin 3072) (h : t.val * 1024 + r.val = b.val * 3072 + s.val) :
    iblk m c 1 t (ix1 r) = m ((c : Thread nD τ).loc main_arg1) (ix3 b s 0) := by
  have e : iblk m c 1 t (ix1 r) = V m c main_v1 (ix1 ⟨t.val * 1024 + r.val, lt t r⟩) := by
    blk_ext [iblk, idx t]
  exact e.trans ((congrFun (V_xs m c) _).trans (cast_xs _ _ b s h))

/-- Every point reads the whole of `w`. -/
theorem blk_w (c : Dev nD) (t : Fin cfg0.N) (k : Fin 1024) (o : Fin 3072) :
    iblk m c 2 t (ix2 k o) = m ((c : Thread nD τ).loc main_arg2) (ix2 k o) := by
  blk_ext [iblk, V, idx t]

/-- Every point reads all the column scales. -/
theorem blk_ws (c : Dev nD) (t : Fin cfg0.N) (o : Fin 3072) :
    iblk m c 3 t (ix2 0 o) = m ((c : Thread nD τ).loc main_arg3) (ix1 o) := by
  have e : iblk m c 3 t (ix2 0 o) = V m c main_v2 (ix2 0 o) := by
    blk_ext [iblk, idx t]
  exact e.trans ((congrFun (V_ws m c) _).trans (cast_ws _ o))

/-- Row `r` of the residual's block at point `t` is row `(b, s)` of the residual. -/
theorem blk_r (c : Dev nD) (t : Fin cfg0.N) (r : Fin 1024) (o : Fin 3072) (b : Fin 6) (s : Fin 3072) (h : t.val * 1024 + r.val = b.val * 3072 + s.val) :
    iblk m c 4 t (ix2 r o) = m ((c : Thread nD τ).loc main_arg4) (ix3 b s o) := by
  have e : iblk m c 4 t (ix2 r o) = V m c main_v3 (ix2 ⟨t.val * 1024 + r.val, lt t r⟩ o) := by
    blk_ext [iblk, idx t]
  exact e.trans ((congrFun (V_r m c) _).trans (cast_r _ _ o b s h))

/-- `flat` at an index of row `b * 3072 + s` and column `o`. -/
theorem flat_apply (c : Dev nD) (i : S18432x3072.Idx) (b : Fin 6) (s o : Fin 3072) (h0 : (i 0).val = b.val * 3072 + s.val)
    (h1 : (i 1).val = o.val) :
    flat m c i = Cert.Spec.down (m ((c : Thread nD τ).loc main_arg0)) (m ((c : Thread nD τ).loc main_arg1))
      (m ((c : Thread nD τ).loc main_arg2)) (m ((c : Thread nD τ).loc main_arg3)) (m ((c : Thread nD τ).loc main_arg4)) b s o := by
  unfold flat
  congr 1
  · apply Fin.ext; show (i 0).val / 3072 = b.val; omega
  · apply Fin.ext; show (i 0).val % 3072 = s.val; omega
  · exact Fin.ext h1

/-- What point `t` stores at row `r` and column `o` is the element of row `(b, s)` and column `o`. -/
theorem point (c : Dev nD) (t : Fin cfg0.N) (r : Fin 1024) (o : Fin 3072) (b : Fin 6) (s : Fin 3072) (h : t.val * 1024 + r.val = b.val * 3072 + s.val) :
    k0_pay1 (iblk m c 0 t) (iblk m c 2 t) (iblk m c 1 t) (iblk m c 3 t) (iblk m c 4 t) (ix2 r o)
      = Cert.Spec.down (m ((c : Thread nD τ).loc main_arg0)) (m ((c : Thread nD τ).loc main_arg1))
          (m ((c : Thread nD τ).loc main_arg2)) (m ((c : Thread nD τ).loc main_arg3)) (m ((c : Thread nD τ).loc main_arg4)) b s o := by
  refine (pay_apply (iblk m c 0 t) (iblk m c 2 t) (iblk m c 1 t) (iblk m c 3 t) (iblk m c 4 t) r o).trans ?_
  rw [blk_xs m c t r b s h, blk_ws m c t o, blk_r m c t r o b s h]
  unfold Cert.Spec.down
  congr 3
  congr 1
  refine Finset.sum_congr rfl fun k _ => ?_
  rw [blk_x m c t r k b s h, blk_w m c t k o]

/-- The region's result array after the run is `flat`. -/
theorem final (c : Dev nD) : (dats m 0 c).arrAt 5 cfg0.N = flat m c := by
  refine (dats m 0 c).arrAt_eq_of_covers 5 _ (by decide +kernel) fun t hf y => ?_
  blk_simp
  rw [after0_5]
  frame_out
  idx_vars y
  have ht : t.val < 18 := t.isLt
  have h0 := y0.isLt
  have h : t.val * 1024 + y0.val = (t.val * 1024 + y0.val) / 3072 * 3072 + (t.val * 1024 + y0.val) % 3072 := by omega
  refine (point m c t y0 y1 ⟨(t.val * 1024 + y0.val) / 3072, by omega⟩ ⟨(t.val * 1024 + y0.val) % 3072, by omega⟩ h).trans
    (flat_apply m c _ _ _ _ ?_ ?_).symm
  · blk_simp [idx t]
    exact h
  · blk_simp [idx t]

/-- The trailing reshape of the flat result, read at the result's three axes. -/
theorem result_apply (c : Dev nD) (b : Fin 6) (s o : Fin 3072) :
    shapeCast S6x3072x3072 (flat m c) shapeCasts_S18432x3072_S6x3072x3072 (ix3 b s o)
      = Cert.Spec.down (m ((c : Thread nD τ).loc main_arg0)) (m ((c : Thread nD τ).loc main_arg1))
          (m ((c : Thread nD τ).loc main_arg2)) (m ((c : Thread nD τ).loc main_arg3)) (m ((c : Thread nD τ).loc main_arg4)) b s o := by
  have h : b.val * 3072 + s.val < 18432 := by omega
  exact (cast_y (flat m c) ⟨b.val * 3072 + s.val, h⟩ o b s rfl).trans (flat_apply m c _ b s o rfl rfl)

end Cert.KernelIdeal.Rows

end
-- ==== Proof.ReferenceValue.lean ====
/- What the reference leaves in its result, index by index. -/
module

public import proofs.«01_k».proof.Defs
public import proofs.«01_k».proof.Proof.Spec
public import proofs.«01_k».proof.Proof.Gen.ReferenceIdeal.Frame
public import Idealize.ShloMosaic.Lib.Claim
public import Idealize.ShloMosaic.Lib.Pointwise
public import Idealize.ShloMosaic.Lib.Pipeline.ValueKit

@[expose] public section

set_option maxRecDepth 16384

noncomputable section

namespace Cert.ReferenceIdeal.Whole

open Idealize.ShloMosaic Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ)

/-- One element of what the reference stores, from the arrays it loads. -/
theorem pay_apply (v0 : Vec Ideal S6x3072x1024 .fp8e4m3) (v1 : Vec Ideal S6x3072x1 .f32) (v2 : Vec Ideal S1024x3072 .fp8e4m3)
    (v3 : Vec Ideal S3072 .f32) (v4 : Vec Ideal S6x3072x3072 .bf16) (b : Fin 6) (s o : Fin 3072) :
    k0_pay1 v0 v1 v2 v3 v4 (ix3 b s o)
      = ((0 + ∑ k : Fin 1024, v0 (ix3 b s k) * v2 (ix2 k o)) * v1 (ix3 b s 0)) * v3 (ix1 o) + v4 (ix3 b s o) := by
  pointwise [k0_pay1]

/-- Every window's block index is zero at the one grid point. -/
theorem idx : ∀ t : Fin cfg0.N, win0_0.index t = ![0, 0, 0] ∧ win0_1.index t = ![0, 0, 0] ∧ win0_2.index t = ![0, 0]
    ∧ win0_3.index t = ![0] ∧ win0_4.index t = ![0, 0, 0] :=
  (by decide +kernel : ∀ t : Fin grid0.N, _)

/-- The one block of `x` is the whole array. -/
theorem iblk0 (c : Dev nD) : iblk m c 0 t0_0 = m ((c : Thread nD τ).loc main_arg0) := by
  blk_ext! [iblk, V, idx t0_0]

/-- The one block of the row scales is the whole array. -/
theorem iblk1 (c : Dev nD) : iblk m c 1 t0_0 = m ((c : Thread nD τ).loc main_arg1) := by
  blk_ext! [iblk, V, idx t0_0]

/-- The one block of `w` is the whole array. -/
theorem iblk2 (c : Dev nD) : iblk m c 2 t0_0 = m ((c : Thread nD τ).loc main_arg2) := by
  blk_ext! [iblk, V, idx t0_0]

/-- The one block of the column scales is the whole array. -/
theorem iblk3 (c : Dev nD) : iblk m c 3 t0_0 = m ((c : Thread nD τ).loc main_arg3) := by
  blk_ext! [iblk, V, idx t0_0]

/-- The one block of the residual is the whole array. -/
theorem iblk4 (c : Dev nD) : iblk m c 4 t0_0 = m ((c : Thread nD τ).loc main_arg4) := by
  blk_ext! [iblk, V, idx t0_0]

/-- The reference's result array after the run, read at an index. -/
theorem final_apply (c : Dev nD) (b : Fin 6) (s o : Fin 3072) :
    (dats m 0 c).arrAt 5 cfg0.N (ix3 b s o)
      = Cert.Spec.down (m ((c : Thread nD τ).loc main_arg0)) (m ((c : Thread nD τ).loc main_arg1))
          (m ((c : Thread nD τ).loc main_arg2)) (m ((c : Thread nD τ).loc main_arg3)) (m ((c : Thread nD τ).loc main_arg4)) b s o := by
  refine congrFun ((dats m 0 c).arrAt_eq_of_after_last 5 t0_0 (by decide +kernel)
    (k0_pay1 (m ((c : Thread nD τ).loc main_arg0)) (m ((c : Thread nD τ).loc main_arg1)) (m ((c : Thread nD τ).loc main_arg2))
      (m ((c : Thread nD τ).loc main_arg3)) (m ((c : Thread nD τ).loc main_arg4))) fun j => ?_) _ |>.trans (pay_apply ..)
  blk_simp
  rw [after0_5]
  frame_out
  rw [iblk0, iblk1, iblk2, iblk3, iblk4]

end Cert.ReferenceIdeal.Whole

end
-- ==== Proof.Equation.lean ====
/- The kernel's result and the reference's are the same function of the same arguments. -/
module

public import proofs.«01_k».proof.Proof.KernelValue
public import proofs.«01_k».proof.Proof.ReferenceValue

@[expose] public section

set_option maxRecDepth 16384

noncomputable section

namespace Cert.Proof.Equation

open Idealize.ShloMosaic Idealize.ShloMosaic.TcCoe Idealize.SL.Sem

open Cert.KernelIdeal Cert.KernelIdeal.Gen in
/-- The host line after the region splits the region's array into the result's three axes. -/
theorem tail (m : (ℓ : Loc nD τ sig) → Buf (Elt Ideal) ℓ) (c : Dev nD) :
    Pipeline.afterTail₀ cfgs (dats m) 0 (V0 m) [hostOps1] c main_v5
      = shapeCast S6x3072x3072 (Rows.flat m c) shapeCasts_S18432x3072_S6x3072x3072 := by
  have e : Pipeline.withArrays (cfgs 0).spec c (V0 m c) (fun w => (dats m 0 c).arrAt w (cfgs 0).N) (Proc.devRef .tc main_v4)
      = Rows.flat m c :=
    (Pipeline.withArrays_arr spec0 winFacts0.arr_inj c _ _ 5).trans (Rows.final m c)
  unfold Pipeline.afterTail₀
  simp only [List.flatten_cons, List.flatten_nil, List.append_nil]
  generalize Pipeline.withArrays (cfgs 0).spec c (V0 m c) (fun w => (dats m 0 c).arrAt w (cfgs 0).N) = W at e ⊢
  rw [← e]
  entry_read
  rfl

/-- Over the extended reals the kernel's result array and the reference's agree element by element, and both programs
    leave their arguments as they found them. -/
theorem algebraic : Cert.algebraic_KernelIdeal_ReferenceIdeal := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
    · exact Cert.KernelIdeal.Gen.W_main_arg3 m (Cert.KernelIdeal.Gen.dats m) c
    · exact Cert.KernelIdeal.Gen.W_main_arg4 m (Cert.KernelIdeal.Gen.dats m) c
  · run_from Cert.ReferenceIdeal.Gen.run_main m' g'
    rw [tail m c]
    funext j
    idx_vars j
    refine (Cert.ReferenceIdeal.Whole.final_apply m' c _ _ _).trans (Eq.trans ?_ (Cert.KernelIdeal.Rows.result_apply m c _ _ _).symm)
    obtain ⟨h0, h1, h2, h3, h4⟩ := hagree c
    rw [h0, h1, h2, h3, h4]

end Cert.Proof.Equation

end
-- ==== Proof.lean ====
/- The five claims assembled: the frames, the ideal form of the kernel, and the equation of the kernel with the
   reference over the extended reals (Proof/Equation.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims: the three programs run to the end and leave their arguments as they were, the kernel's ideal form is
    the kernel with nothing rewritten, and over the extended reals the kernel computes what the reference computes. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Equation.algebraic⟩

end Cert.Proof

end
